-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_not_negative_nans [hPre_scales_are_not_negative_nans : Cert.Pre_scales_are_not_negative_nans.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_not_negative_nans.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_not_negative_nans [hPre_scales_are_not_negative_nans : Cert.Pre_scales_are_not_negative_nans.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_not_negative_nans.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_are_not_negative_nans [hKernelIdeal : Cert.KernelIdeal.Facts] [hPre_scales_are_not_negative_nans : Cert.Pre_scales_are_not_negative_nans.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_not_negative_nans m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_are_not_negative_nans [hReferenceIdeal : Cert.ReferenceIdeal.Facts] [hPre_scales_are_not_negative_nans : Cert.Pre_scales_are_not_negative_nans.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_not_negative_nans m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_are_not_negative_nans [hKernelIdeal : Cert.KernelIdeal.Facts] [hReferenceIdeal : Cert.ReferenceIdeal.Facts] [hPre_scales_are_not_negative_nans : Cert.Pre_scales_are_not_negative_nans.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_not_negative_nans m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_are_not_negative_nans : Cert.Pre_scales_are_not_negative_nans.Facts),
    quiescent_Kernel (hKernel := hKernel)
    ∧ quiescent_KernelIdeal (hKernelIdeal := hKernelIdeal)
    ∧ quiescent_KernelIdeal_pre_scales_are_not_negative_nans (hKernelIdeal := hKernelIdeal) (hPre_scales_are_not_negative_nans := hPre_scales_are_not_negative_nans)
    ∧ quiescent_ReferenceIdeal (hReferenceIdeal := hReferenceIdeal)
    ∧ quiescent_ReferenceIdeal_pre_scales_are_not_negative_nans (hReferenceIdeal := hReferenceIdeal) (hPre_scales_are_not_negative_nans := hPre_scales_are_not_negative_nans)
    ∧ preserves_Kernel_KernelIdeal
    ∧ algebraic_KernelIdeal_ReferenceIdeal_pre_scales_are_not_negative_nans (hKernelIdeal := hKernelIdeal) (hReferenceIdeal := hReferenceIdeal) (hPre_scales_are_not_negative_nans := hPre_scales_are_not_negative_nans)
-- ==== Pre_scales_are_not_negative_nans.lean ====
abbrev S256x1x5120 : Shape := ⟨3, ![256, 1, 5120]⟩
abbrev S2560x5120 : Shape := ⟨2, ![2560, 5120]⟩
abbrev S20x5120 : Shape := ⟨2, ![20, 5120]⟩
abbrev S160x5120 : Shape := ⟨2, ![160, 5120]⟩
abbrev S_ : Shape := ⟨0, ![]⟩

class Facts : Prop where
  natLt_16_32 : 16 < 32
  bcast_S_S20x5120 : S_.BroadcastsInDim S20x5120 (![] : Fin 0 → Fin S20x5120.rank)
  reducesTo_S20x5120_S_d0_1 : S20x5120.ReducesTo [0, 1] S_
  h_S_ : 0 < S_.numel

variable [Facts]

def fn {F : FTy → Type} [FloatOps F] (main_arg0 : FVec F S256x1x5120 .bf16) (main_arg1 : IVec S2560x5120 8) (main_arg2 : IVec S20x5120 16) (main_arg3 : IVec S20x5120 16) (main_arg4 : IVec S160x5120 8) (main_arg5 : IVec S160x5120 8) : IVec S_ 1 :=
  let main_v0 : IVec S20x5120 32 := (extsi 32 · natLt_16_32) main_arg2
  let main_c : IVec S_ 32 := constantI S_ 32 0#32
  let main_v1 : IVec S20x5120 32 := broadcastInDim S20x5120 ![] bcast_S_S20x5120 main_c
  let main_v2 : IVec S20x5120 1 := cmpi .sge main_v0 main_v1
  let main_c_0 : IVec S_ 32 := constantI S_ 32 4294966272#32
  let main_v3 : IVec S20x5120 32 := broadcastInDim S20x5120 ![] bcast_S_S20x5120 main_c_0
  let main_v4 : IVec S20x5120 1 := cmpi .sle main_v0 main_v3
  let main_v5 : IVec S20x5120 1 := ori main_v2 main_v4
  let main_c_1 : IVec S_ 1 := constantI S_ 1 1#1
  let main_v6 : IVec S_ 1 := (fun x v => Host.reduce IntOp.andi x v reducesTo_S20x5120_S_d0_1 h_S_) main_v5 main_c_1
  let main_v7 : IVec S20x5120 32 := (extsi 32 · natLt_16_32) main_arg3
  let main_c_2 : IVec S_ 32 := constantI S_ 32 0#32
  let main_v8 : IVec S20x5120 32 := broadcastInDim S20x5120 ![] bcast_S_S20x5120 main_c_2
  let main_v9 : IVec S20x5120 1 := cmpi .sge main_v7 main_v8
  let main_c_3 : IVec S_ 32 := constantI S_ 32 4294966272#32
  let main_v10 : IVec S20x5120 32 := broadcastInDim S20x5120 ![] bcast_S_S20x5120 main_c_3
  let main_v11 : IVec S20x5120 1 := cmpi .sle main_v7 main_v10
  let main_v12 : IVec S20x5120 1 := ori main_v9 main_v11
  let main_c_4 : IVec S_ 1 := constantI S_ 1 1#1
  let main_v13 : IVec S_ 1 := (fun x v => Host.reduce IntOp.andi x v reducesTo_S20x5120_S_d0_1 h_S_) main_v12 main_c_4
  let main_v14 : IVec S_ 1 := andi main_v6 main_v13
  main_v14
-- ==== Kernel.lean ====
abbrev S256x1x5120 : Shape := ⟨3, ![256, 1, 5120]⟩
abbrev S2560x5120 : Shape := ⟨2, ![2560, 5120]⟩
abbrev S20x5120 : Shape := ⟨2, ![20, 5120]⟩
abbrev S160x5120 : Shape := ⟨2, ![160, 5120]⟩
abbrev S256x5120 : Shape := ⟨2, ![256, 5120]⟩
abbrev S2560x512 : Shape := ⟨2, ![2560, 512]⟩
abbrev S20x512 : Shape := ⟨2, ![20, 512]⟩
abbrev S160x512 : Shape := ⟨2, ![160, 512]⟩
abbrev S256x512 : Shape := ⟨2, ![256, 512]⟩
abbrev S20x1x512 : Shape := ⟨3, ![20, 1, 512]⟩
abbrev S20x8x512 : Shape := ⟨3, ![20, 8, 512]⟩
abbrev S80x32x512 : Shape := ⟨3, ![80, 32, 512]⟩
abbrev S80x1x32x512 : Shape := ⟨4, ![80, 1, 32, 512]⟩
abbrev S80x2x32x512 : Shape := ⟨4, ![80, 2, 32, 512]⟩
abbrev S160x32x512 : Shape := ⟨3, ![160, 32, 512]⟩
abbrev S160x1x512 : Shape := ⟨3, ![160, 1, 512]⟩
abbrev S5120x512 : Shape := ⟨2, ![5120, 512]⟩

abbrev nBuf : Space → Nat
  | .hbm => 9
  | .vmem => 13
  | .smem => 0
  | _ => 0

abbrev bufTy : (tb : Table) → Fin (tcTables nBuf tb) → BufTy
  | .hbm, ⟨0, _⟩ => ⟨S256x1x5120, .bf16⟩
  | .hbm, ⟨1, _⟩ => ⟨S2560x5120, .i8⟩
  | .hbm, ⟨2, _⟩ => ⟨S20x5120, .i16⟩
  | .hbm, ⟨3, _⟩ => ⟨S20x5120, .i16⟩
  | .hbm, ⟨4, _⟩ => ⟨S160x5120, .i8⟩
  | .hbm, ⟨5, _⟩ => ⟨S160x5120, .i8⟩
  | .hbm, ⟨6, _⟩ => ⟨S256x5120, .bf16⟩
  | .hbm, ⟨7, _⟩ => ⟨S256x5120, .bf16⟩
  | .hbm, ⟨8, _⟩ => ⟨S256x1x5120, .bf16⟩
  | .local _ .vmem, ⟨0, _⟩ => ⟨S256x5120, .bf16⟩
  | .local _ .vmem, ⟨1, _⟩ => ⟨S2560x512, .i8⟩
  | .local _ .vmem, ⟨2, _⟩ => ⟨S2560x512, .i8⟩
  | .local _ .vmem, ⟨3, _⟩ => ⟨S20x512, .i16⟩
  | .local _ .vmem, ⟨4, _⟩ => ⟨S20x512, .i16⟩
  | .local _ .vmem, ⟨5, _⟩ => ⟨S20x512, .i16⟩
  | .local _ .vmem, ⟨6, _⟩ => ⟨S20x512, .i16⟩
  | .local _ .vmem, ⟨7, _⟩ => ⟨S160x512, .i8⟩
  | .local _ .vmem, ⟨8, _⟩ => ⟨S160x512, .i8⟩
  | .local _ .vmem, ⟨9, _⟩ => ⟨S160x512, .i8⟩
  | .local _ .vmem, ⟨10, _⟩ => ⟨S160x512, .i8⟩
  | .local _ .vmem, ⟨11, _⟩ => ⟨S256x512, .bf16⟩
  | .local _ .vmem, ⟨12, _⟩ => ⟨S256x512, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S256x1x5120 : Shape := ⟨3, ![256, 1, 5120]⟩
abbrev S2560x5120 : Shape := ⟨2, ![2560, 5120]⟩
abbrev S20x5120 : Shape := ⟨2, ![20, 5120]⟩
abbrev S160x5120 : Shape := ⟨2, ![160, 5120]⟩
abbrev S2 : Shape := ⟨1, ![2]⟩
abbrev S80x1x32x5120 : Shape := ⟨4, ![80, 1, 32, 5120]⟩
abbrev S1x2x1x1 : Shape := ⟨4, ![1, 2, 1, 1]⟩
abbrev S80x2x32x5120 : Shape := ⟨4, ![80, 2, 32, 5120]⟩
abbrev S_ : Shape := ⟨0, ![]⟩
abbrev S20x8x5120 : Shape := ⟨3, ![20, 8, 5120]⟩
abbrev S80x2x1x5120 : Shape := ⟨4, ![80, 2, 1, 5120]⟩
abbrev S256x80x2x32 : Shape := ⟨4, ![256, 80, 2, 32]⟩
abbrev S256x5120 : Shape := ⟨2, ![256, 5120]⟩

abbrev nBuf : Space → Nat
  | .hbm => 41
  | .vmem => 4
  | .smem => 0
  | _ => 0

abbrev bufTy : (tb : Table) → Fin (tcTables nBuf tb) → BufTy
  | .hbm, ⟨0, _⟩ => ⟨S256x1x5120, .bf16⟩
  | .hbm, ⟨1, _⟩ => ⟨S2560x5120, .i8⟩
  | .hbm, ⟨2, _⟩ => ⟨S20x5120, .i16⟩
  | .hbm, ⟨3, _⟩ => ⟨S20x5120, .i16⟩
  | .hbm, ⟨4, _⟩ => ⟨S160x5120, .i8⟩
  | .hbm, ⟨5, _⟩ => ⟨S160x5120, .i8⟩
  | .hbm, ⟨6, _⟩ => ⟨S2, .i32⟩
  | .hbm, ⟨7, _⟩ => ⟨S20x5120, .f32⟩
  | .hbm, ⟨8, _⟩ => ⟨S20x5120, .f32⟩
  | .hbm, ⟨9, _⟩ => ⟨S2560x5120, .i32⟩
  | .hbm, ⟨10, _⟩ => ⟨S80x1x32x5120, .i32⟩
  | .hbm, ⟨11, _⟩ => ⟨S1x2x1x1, .i32⟩
  | .hbm, ⟨12, _⟩ => ⟨S80x2x32x5120, .i32⟩
  | .hbm, ⟨13, _⟩ => ⟨S80x2x32x5120, .i32⟩
  | .hbm, ⟨14, _⟩ => ⟨S80x2x32x5120, .i32⟩
  | .hbm, ⟨15, _⟩ => ⟨S_, .i32⟩
  | .hbm, ⟨16, _⟩ => ⟨S80x2x32x5120, .i32⟩
  | .hbm, ⟨17, _⟩ => ⟨S80x2x32x5120, .i32⟩
  | .hbm, ⟨18, _⟩ => ⟨S80x2x32x5120, .bf16⟩
  | .hbm, ⟨19, _⟩ => ⟨S20x8x5120, .f32⟩
  | .hbm, ⟨20, _⟩ => ⟨S160x5120, .f32⟩
  | .hbm, ⟨21, _⟩ => ⟨S160x5120, .i32⟩
  | .hbm, ⟨22, _⟩ => ⟨S160x5120, .f32⟩
  | .hbm, ⟨23, _⟩ => ⟨S160x5120, .f32⟩
  | .hbm, ⟨24, _⟩ => ⟨S160x5120, .bf16⟩
  | .hbm, ⟨25, _⟩ => ⟨S80x2x1x5120, .bf16⟩
  | .hbm, ⟨26, _⟩ => ⟨S20x8x5120, .f32⟩
  | .hbm, ⟨27, _⟩ => ⟨S160x5120, .f32⟩
  | .hbm, ⟨28, _⟩ => ⟨S160x5120, .i32⟩
  | .hbm, ⟨29, _⟩ => ⟨S160x5120, .f32⟩
  | .hbm, ⟨30, _⟩ => ⟨S160x5120, .f32⟩
  | .hbm, ⟨31, _⟩ => ⟨S160x5120, .bf16⟩
  | .hbm, ⟨32, _⟩ => ⟨S80x2x1x5120, .bf16⟩
  | .hbm, ⟨33, _⟩ => ⟨S80x2x32x5120, .bf16⟩
  | .hbm, ⟨34, _⟩ => ⟨S80x2x32x5120, .bf16⟩
  | .hbm, ⟨35, _⟩ => ⟨S80x2x32x5120, .bf16⟩
  | .hbm, ⟨36, _⟩ => ⟨S80x2x32x5120, .bf16⟩
  | .hbm, ⟨37, _⟩ => ⟨S256x80x2x32, .bf16⟩
  | .hbm, ⟨38, _⟩ => ⟨S256x5120, .f32⟩
  | .hbm, ⟨39, _⟩ => ⟨S256x5120, .bf16⟩
  | .hbm, ⟨40, _⟩ => ⟨S256x1x5120, .bf16⟩
  | .local _ .vmem, ⟨0, _⟩ => ⟨S20x5120, .i16⟩
  | .local _ .vmem, ⟨1, _⟩ => ⟨S20x5120, .i16⟩
  | .local _ .vmem, ⟨2, _⟩ => ⟨S20x5120, .f32⟩
  | .local _ .vmem, ⟨3, _⟩ => ⟨S20x5120, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S20x5120 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x5120 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.HalfWord.lean ====
/-
  Half-precision numbers read off their sixteen bits.

  The kernel holds a scale as a 16-bit word and rebuilds the number that the word denotes from the word's own bits: it
  clears the sign, moves the exponent and the fraction to where a single-precision number has them, adds what the two
  exponent biases differ by, and treats the numbers below the smallest normal one separately; then it negates if the
  sign bit was set. This file proves that the number so rebuilt is the half-precision number of the word
  (`decoded_eq`), for every word that is not a NaN with its sign bit set.

  The road: both sides are written as the same function `unsigned` of the fifteen bits below the sign.
-/
module

public import Idealize.ShloMosaic.Lib.Pointwise

@[expose] public section

set_option maxRecDepth 16384

noncomputable section

namespace HalfWord

open Idealize.ShloMosaic

/-! ## The number of a word, by arithmetic on the word read as a natural number -/

/-- The number that fifteen bits `a`, five of exponent above ten of fraction, denote. -/
def unsigned (a : Nat) : EReal :=
  if a / 1024 = 31 then (if a % 1024 = 0 then ⊤ else ⊥)
  else if a / 1024 = 0 then (((a % 1024 : Nat) * (2 : ℝ) ^ (-24 : Int) : ℝ) : EReal)
  else (((1024 + a % 1024 : Nat) * (2 : ℝ) ^ ((a / 1024 : Nat) - 25 : Int) : ℝ) : EReal)

/-- A pattern's sign bit, by division. -/
theorem sign_eq {n : Nat} (b : BitVec n) (k : Nat) : (b.extractLsb' k 1 == 1#1) = decide (b.toNat / 2 ^ k % 2 = 1) := by
  rw [Bool.eq_iff_iff]
  simp only [beq_iff_eq, decide_eq_true_eq, ← BitVec.toNat_inj, BitVec.extractLsb'_toNat, Nat.shiftRight_eq_div_pow,
    BitVec.toNat_ofNat, pow_one, Nat.one_mod]

/-- The exponent of a number of the smallest binade. -/
theorem half_least : (1 : Int) - 25 = -24 := by norm_num
/-- The bias and the fraction's ten bits together. -/
theorem half_shift (k : Int) : k - ((2 : Int) ^ (5 - 1) - 1) - ((10 : Nat) : Int) = k - 25 := by norm_num; ring

/-- A half-precision word with its sign bit clear. -/
theorem half_of_lt (w : BitVec 16) (h : w.toNat < 32768) : Ideal.ofBits .f16 w = unsigned w.toNat := by
  have e1 : w.toNat / 2 ^ (5 + 10) % 2 = 0 := by omega
  have e2 : w.toNat / 2 ^ 10 % 2 ^ 5 = w.toNat / 1024 := by omega
  have e3 : w.toNat / 2 ^ 0 % 2 ^ 10 = w.toNat % 1024 := by omega
  have e4 : (2 : Nat) ^ 5 - 1 = 31 := by norm_num
  have e5 : (2 : Nat) ^ 10 = 1024 := by norm_num
  simp only [Ideal.ofBits, Ideal.ieee, sign_eq, BitVec.extractLsb'_toNat, Nat.shiftRight_eq_div_pow, e1, e2, e3]
  simp only [e4, e5, half_shift, half_least, zero_ne_one, decide_false, Bool.false_eq_true, if_false, one_mul]
  rfl

/-- A half-precision word with its sign bit set, other than a NaN. -/
theorem half_of_ge (w : BitVec 16) (h : 32768 ≤ w.toNat) (h' : w.toNat ≤ 64512) :
    Ideal.ofBits .f16 w = - unsigned (w.toNat % 32768) := by
  have hw := w.isLt
  have e1 : w.toNat / 2 ^ (5 + 10) % 2 = 1 := by omega
  have e2 : w.toNat / 2 ^ 10 % 2 ^ 5 = w.toNat % 32768 / 1024 := by omega
  have e3 : w.toNat / 2 ^ 0 % 2 ^ 10 = w.toNat % 32768 % 1024 := by omega
  have e4 : (2 : Nat) ^ 5 - 1 = 31 := by norm_num
  have e5 : (2 : Nat) ^ 10 = 1024 := by norm_num
  simp only [Ideal.ofBits, Ideal.ieee, sign_eq, BitVec.extractLsb'_toNat, Nat.shiftRight_eq_div_pow, e1, e2, e3]
  simp only [e4, e5, half_shift, half_least, decide_true, if_true]
  unfold unsigned
  by_cases hx : w.toNat % 32768 / 1024 = 31
  · have hf : w.toNat % 32768 % 1024 = 0 := by omega
    rw [if_pos hx, if_pos hf, if_pos hx, if_pos hf, EReal.neg_top]
  · rw [if_neg hx, if_neg hx]
    split <;> rw [← EReal.coe_neg] <;> congr 1 <;> ring

/-! ## The kernel's reading -/

/-- The word's bits below the sign. -/
def magnitude (w : BitVec 16) : BitVec 32 := IntOp.andi (BitVec.signExtend 32 w) 32767#32

/-- The kernel's value of them. -/
def rebuilt (w : BitVec 16) : EReal :=
  Scalar.select (IntOp.cmpi .slt (magnitude w) 1024#32)
    (FloatOps.sitofp (F := Ideal) .f32 (magnitude w) * Ideal.ofBits .f32 864026624#32)
    (Ideal.ofBits .f32 (IntOp.addi (IntOp.shli .vector (magnitude w) 13#32)
      (Scalar.select (IntOp.cmpi .sge (magnitude w) 31744#32) 1879048192#32 939524096#32)))

/-- The kernel's value of the word. -/
def decoded (w : BitVec 16) : EReal :=
  Scalar.select (IntOp.cmpi .ne (IntOp.andi (BitVec.signExtend 32 w) 32768#32) 0#32) (0 - rebuilt w) (rebuilt w)

theorem toNat_signExtend (w : BitVec 16) :
    (BitVec.signExtend 32 w).toNat = if w.toNat < 32768 then w.toNat else w.toNat + 4294901760 := by
  have hw := w.isLt
  rw [BitVec.toNat_signExtend, BitVec.msb_eq_decide, BitVec.toNat_setWidth]
  by_cases h : w.toNat < 32768
  · rw [if_pos h, decide_eq_false (by omega)]; simp; omega
  · rw [if_neg h, decide_eq_true (by omega)]; simp; omega

theorem toNat_magnitude (w : BitVec 16) : (magnitude w).toNat = w.toNat % 32768 := by
  have hw := w.isLt
  unfold magnitude IntOp.andi
  rw [BitVec.toNat_and, show (32767#32).toNat = 2 ^ 15 - 1 from rfl, Nat.and_two_pow_sub_one_eq_mod, toNat_signExtend]
  split <;> omega

theorem toInt_magnitude (w : BitVec 16) : (magnitude w).toInt = ((w.toNat % 32768 : Nat) : Int) := by
  rw [BitVec.toInt_eq_toNat_of_lt (by rw [toNat_magnitude]; omega), toNat_magnitude]

/-- The test of the sign bit. -/
theorem sign_test (w : BitVec 16) :
    IntOp.cmpi .ne (IntOp.andi (BitVec.signExtend 32 w) 32768#32) 0#32 = BitVec.ofBool (decide (32768 ≤ w.toNat)) := by
  have hw := w.isLt
  have h0 : IntOp.andi (BitVec.signExtend 32 w) 32768#32 = if 32768 ≤ w.toNat then 32768#32 else 0#32 := by
    unfold IntOp.andi
    rw [show (32768#32) = BitVec.twoPow 32 15 from rfl, BitVec.and_twoPow]
    congr 1
    rw [BitVec.getLsbD, Nat.testBit_eq_decide_div_mod_eq, toNat_signExtend]
    by_cases h : w.toNat < 32768
    · rw [if_pos h]; simp; omega
    · rw [if_neg h]; simp; omega
  rw [h0]
  by_cases h : 32768 ≤ w.toNat
  · rw [if_pos h, decide_eq_true h]; rfl
  · rw [if_neg h, decide_eq_false h]; rfl

/-- The single-precision word that the kernel builds, read as a natural number. -/
theorem toNat_built (w : BitVec 16) :
    (IntOp.addi (IntOp.shli .vector (magnitude w) 13#32)
      (Scalar.select (IntOp.cmpi .sge (magnitude w) 31744#32) 1879048192#32 939524096#32)).toNat
    = w.toNat % 32768 * 8192 + if 31744 ≤ w.toNat % 32768 then 1879048192 else 939524096 := by
  have hm := toNat_magnitude w
  have hs : (IntOp.shli .vector (magnitude w) 13#32).toNat = w.toNat % 32768 * 8192 := by
    unfold IntOp.shli
    rw [if_pos (by decide), BitVec.shiftLeft_eq', BitVec.toNat_shiftLeft, hm, Nat.shiftLeft_eq]
    simp; omega
  have hc : IntOp.cmpi .sge (magnitude w) 31744#32 = BitVec.ofBool (decide (31744 ≤ w.toNat % 32768)) := by
    have : (31744#32).sle (magnitude w) = decide (31744 ≤ w.toNat % 32768) := by
      rw [BitVec.sle_eq_decide, toInt_magnitude, show (31744#32).toInt = 31744 from rfl, decide_eq_decide]
      omega
    simp only [IntOp.cmpi, this]
  unfold IntOp.addi
  rw [BitVec.toNat_add, hs, hc]
  by_cases h : 31744 ≤ w.toNat % 32768
  · rw [if_pos h, decide_eq_true h]
    show (_ + 1879048192) % 2 ^ 32 = _
    omega
  · rw [if_neg h, decide_eq_false h]
    show (_ + 939524096) % 2 ^ 32 = _
    omega

/-- A single-precision pattern with its sign bit clear and exponent field `e`, fraction field `f`. -/
theorem single_of_fields (b : BitVec 32) (e f : Nat) (h : b.toNat = e * 8388608 + f) (he : e < 256) (hf : f < 8388608)
    (h0 : e ≠ 0) :
    Ideal.ofBits .f32 b = if e = 255 then (if f = 0 then ⊤ else ⊥)
      else (((8388608 + f : Nat) * (2 : ℝ) ^ ((e : Int) - 150) : ℝ) : EReal) := by
  have e1 : b.toNat / 2 ^ (8 + 23) % 2 = 0 := by omega
  have e2 : b.toNat / 2 ^ 23 % 2 ^ 8 = e := by omega
  have e3 : b.toNat / 2 ^ 0 % 2 ^ 23 = f := by omega
  have e4 : (2 : Nat) ^ 8 - 1 = 255 := by norm_num
  have e5 : (2 : Nat) ^ 23 = 8388608 := by norm_num
  have e6 (k : Int) : k - ((2 : Int) ^ (8 - 1) - 1) - ((23 : Nat) : Int) = k - 150 := by norm_num; ring
  simp only [Ideal.ofBits, Ideal.ieee, sign_eq, BitVec.extractLsb'_toNat, Nat.shiftRight_eq_div_pow, e1, e2, e3]
  simp only [e4, e5, e6, zero_ne_one, decide_false, Bool.false_eq_true, if_false, one_mul, if_neg h0]

/-- The scale of the numbers below the smallest normal one. -/
theorem ulp_eq : Ideal.ofBits .f32 864026624#32 = (((2 : ℝ) ^ (-24 : Int) : ℝ) : EReal) := by
  rw [single_of_fields _ 103 0 (by decide) (by decide) (by decide) (by decide)]
  norm_num

/-- The kernel's value of the fifteen bits is the number that they denote. -/
theorem rebuilt_eq (w : BitVec 16) : rebuilt w = unsigned (w.toNat % 32768) := by
  have hm := toNat_magnitude w
  have hc : IntOp.cmpi .slt (magnitude w) 1024#32 = BitVec.ofBool (decide (w.toNat % 32768 < 1024)) := by
    have : (magnitude w).slt 1024#32 = decide (w.toNat % 32768 < 1024) := by
      rw [BitVec.slt_eq_decide, toInt_magnitude, show (1024#32).toInt = 1024 from rfl, decide_eq_decide]
      omega
    simp only [IntOp.cmpi, this]
  unfold rebuilt
  rw [hc]
  have hb := toNat_built w
  generalize IntOp.addi (IntOp.shli .vector (magnitude w) 13#32)
      (Scalar.select (IntOp.cmpi .sge (magnitude w) 31744#32) 1879048192#32 939524096#32) = b at hb
  have hi : (FloatOps.sitofp (F := Ideal) .f32 (magnitude w) : EReal) = (((w.toNat % 32768 : Nat) : ℝ) : EReal) := by
    show (((magnitude w).toInt : ℝ) : EReal) = _
    rw [toInt_magnitude]; norm_cast
  generalize ha : w.toNat % 32768 = a at *
  have hlt : a < 32768 := by omega
  by_cases h : a < 1024
  · rw [decide_eq_true h]
    show _ * _ = _
    have e0 : a / 1024 = 0 := by omega
    have e1 : a % 1024 = a := by omega
    erw [hi, ulp_eq]
    unfold unsigned
    rw [e0, e1, ← EReal.coe_mul]
    simp
  · rw [decide_eq_false h]
    show Ideal.ofBits .f32 b = _
    by_cases h' : 31744 ≤ a
    · rw [if_pos h'] at hb
      have e0 : a / 1024 = 31 := by omega
      have e1 : (a % 1024 * 8192 = 0) = (a % 1024 = 0) := by rw [eq_iff_iff]; omega
      have e2 : b.toNat = 255 * 8388608 + a % 1024 * 8192 := by rw [hb]; omega
      have e3 : a % 1024 * 8192 < 8388608 := by omega
      rw [single_of_fields b 255 (a % 1024 * 8192) e2 (by norm_num) e3 (by norm_num)]
      unfold unsigned
      rw [e0]
      simp only [e1, if_true]
    · rw [if_neg h'] at hb
      have e3 : b.toNat = (a / 1024 + 112) * 8388608 + a % 1024 * 8192 := by rw [hb]; omega
      have e4 : a % 1024 * 8192 < 8388608 := by omega
      have e5 : a / 1024 + 112 < 256 := by omega
      have e6 : a / 1024 + 112 ≠ 0 := by omega
      rw [single_of_fields b (a / 1024 + 112) (a % 1024 * 8192) e3 e5 e4 e6]
      have e0 : a / 1024 ≠ 31 := by omega
      have e1 : a / 1024 ≠ 0 := by omega
      have e2 : a / 1024 + 112 ≠ 255 := by omega
      unfold unsigned
      rw [if_neg e0, if_neg e1, if_neg e2]
      congr 1
      rw [show ((a / 1024 + 112 : Nat) : Int) - 150 = (((a / 1024 : Nat) : Int) - 25) + (-13) by push_cast; ring,
        zpow_add₀ (by norm_num)]
      push_cast
      norm_num
      ring

/-- THE READING IS RIGHT: a word that is not a NaN with its sign bit set is decoded to the number that it denotes. -/
theorem decoded_eq (w : BitVec 16) (h : w.toNat < 32768 ∨ w.toNat ≤ 64512) : decoded w = Ideal.ofBits .f16 w := by
  unfold decoded
  rw [sign_test, rebuilt_eq]
  by_cases hs : 32768 ≤ w.toNat
  · rw [half_of_ge w hs (by omega), decide_eq_true hs]
    show 0 - _ = _
    rw [zero_sub]
  · rw [half_of_lt w (by omega), decide_eq_false hs]
    show unsigned _ = _
    rw [Nat.mod_eq_of_lt (by omega)]

end HalfWord
-- ==== Proof.Term.lean ====
/-
  One product of the linear map, on scalars.

  The matrix is held in four bits per entry: two codes to a byte, and for every 32 rows of a column a scale and an offset
  of eight bits, each multiplied by a half-precision number shared by 256 rows. An entry of the matrix is
  `code · (d · sc) − dmin · mn`. `term` is an element of the left operand times such an entry; the kernel's result and
  the reference's are both shown to be the sum of 5120 of them.

  The two programs take the codes out of a byte by different word operations. The lemmas here say that each of these is
  the byte's lower half (`byte % 16`) or its upper half (`byte / 16`); they are statements about the 256 bytes.
-/
module

public import Idealize.ShloMosaic.Lib.Pointwise

@[expose] public section

set_option maxRecDepth 16384

noncomputable section

namespace Term

open Idealize.ShloMosaic

/-- The code in a byte: its lower half where the row group `g` is even, else its upper half. -/
def code (g : Nat) (q : BitVec 8) : EReal := (((if g % 2 = 0 then q.toNat % 16 else q.toNat / 16 : Nat) : ℝ) : EReal)

/-- An unsigned byte as a number. -/
def byte (b : BitVec 8) : EReal := ((b.toNat : ℝ) : EReal)

/-- An element of the left operand times an entry of the matrix. -/
def term (x : EReal) (g : Nat) (q : BitVec 8) (d dmin : BitVec 16) (sc mn : BitVec 8) : EReal :=
  x * (code g q * (Ideal.ofBits .f16 d * byte sc) - Ideal.ofBits .f16 dmin * byte mn)

/-! ## The kernel's words -/

theorem low_word : ∀ q : BitVec 8, (IntOp.andi q 15#8).toNat = q.toNat % 16 := by decide +kernel

theorem high_word : ∀ q : BitVec 8,
    (BitVec.setWidth 8 (IntOp.shrsi .vector (BitVec.setWidth 32 q) 4#32)).toNat = q.toNat / 16 := by decide +kernel

theorem low_code (q : BitVec 8) : FloatOps.uitofp (F := Ideal) .bf16 (IntOp.andi q 15#8) = (((q.toNat % 16 : Nat) : ℝ) : EReal) := by
  show ((((IntOp.andi q 15#8).toNat : Nat) : ℝ) : EReal) = _
  rw [low_word]

theorem high_code (q : BitVec 8) :
    FloatOps.uitofp (F := Ideal) .bf16 (BitVec.setWidth 8 (IntOp.shrsi .vector (BitVec.setWidth 32 q) 4#32))
      = (((q.toNat / 16 : Nat) : ℝ) : EReal) := by
  show ((((BitVec.setWidth 8 (IntOp.shrsi .vector (BitVec.setWidth 32 q) 4#32)).toNat : Nat) : ℝ) : EReal) = _
  rw [high_word]

/-! ## The reference's words -/

theorem host_low_word : ∀ q : BitVec 8,
    (IntOp.andi (IntOp.shrsi .host (BitVec.setWidth 32 q) 0#32) 15#32).toInt = ((q.toNat % 16 : Nat) : Int) := by decide +kernel

theorem host_high_word : ∀ q : BitVec 8,
    (IntOp.andi (IntOp.shrsi .host (BitVec.setWidth 32 q) 4#32) 15#32).toInt = ((q.toNat / 16 : Nat) : Int) := by decide +kernel

theorem host_low_code (q : BitVec 8) :
    FloatOps.sitofp (F := Ideal) .bf16 (IntOp.andi (IntOp.shrsi .host (BitVec.setWidth 32 q) 0#32) 15#32)
      = (((q.toNat % 16 : Nat) : ℝ) : EReal) := by
  show (((IntOp.andi (IntOp.shrsi .host (BitVec.setWidth 32 q) 0#32) 15#32).toInt : ℝ) : EReal) = _
  rw [host_low_word, Int.cast_natCast]

theorem host_high_code (q : BitVec 8) :
    FloatOps.sitofp (F := Ideal) .bf16 (IntOp.andi (IntOp.shrsi .host (BitVec.setWidth 32 q) 4#32) 15#32)
      = (((q.toNat / 16 : Nat) : ℝ) : EReal) := by
  show (((IntOp.andi (IntOp.shrsi .host (BitVec.setWidth 32 q) 4#32) 15#32).toInt : ℝ) : EReal) = _
  rw [host_high_word, Int.cast_natCast]

/-! ## Both programs' bytes -/

theorem byte_word : ∀ b : BitVec 8, (BitVec.setWidth 32 b).toInt = (b.toNat : Int) := by decide +kernel

/-- An eight-bit scale or offset, widened and converted. -/
theorem byte_eq (b : BitVec 8) : FloatOps.sitofp (F := Ideal) .f32 (BitVec.setWidth 32 b) = byte b := by
  show (((BitVec.setWidth 32 b).toInt : ℝ) : EReal) = _
  rw [byte_word, Int.cast_natCast]
  rfl

end Term
-- ==== Proof.KernelBlock.lean ====
/-
  What one grid point of the kernel computes, at an element of its block.

  A grid point has the whole left operand and the 512-column blocks of the codes, the scales and the offsets. Its result
  at row `r` and column `l` is the sum over the 5120 rows `k` of the matrix of the left operand's element `(r, k)` times
  the matrix's entry `(k, l)`: the byte of row `k` lies at row `k / 64 * 32 + k % 32`, its half is told by `k / 32`, its
  scale and offset stand at row `k / 32`, and the half-precision numbers at row `k / 256`.
-/
module

public import proofs.«01_k».proof.Proof.Gen.KernelIdeal.Frame
public import proofs.«01_k».proof.Proof.HalfWord
public import proofs.«01_k».proof.Proof.Term

@[expose] public section

set_option maxRecDepth 16384

noncomputable section

namespace Cert.KernelIdeal.Block

open Idealize.ShloMosaic Idealize.SL.Sem Cert.KernelIdeal Cert.KernelIdeal.Gen

/-- The word is not a NaN with its sign bit set. -/
abbrev Fine (w : BitVec 16) : Prop := w.toNat < 32768 ∨ w.toNat ≤ 64512

/-- The scales: a row's eight-bit scale times the half-precision number of its 256 rows. -/
theorem scales_apply (d : Vec Ideal S20x512 .i16) (sc : Vec Ideal S160x512 .i8) (hd : ∀ i, Fine (d i)) (g : Fin 160) (l : Fin 512) :
    k0_pay2 d sc (ix2 g l) = Ideal.ofBits .f16 (d (ix2 ⟨g.val / 8, by omega⟩ l)) * Term.byte (sc (ix2 g l)) := by
  pointwise [k0_pay2]
  rw [Term.byte_eq]
  congr 1
  exact HalfWord.decoded_eq _ (hd _)

/-- The offsets, in the same form. -/
theorem offsets_apply (d : Vec Ideal S20x512 .i16) (mn : Vec Ideal S160x512 .i8) (hd : ∀ i, Fine (d i)) (g : Fin 160) (l : Fin 512) :
    k0_pay6 (k0_pay3 d) (k0_pay4 d) (k0_pay5 d) mn (ix2 g l)
      = Ideal.ofBits .f16 (d (ix2 ⟨g.val / 8, by omega⟩ l)) * Term.byte (mn (ix2 g l)) := by
  pointwise [k0_pay6, k0_pay5, k0_pay4, k0_pay3]
  rw [Term.byte_eq]
  congr 1
  exact HalfWord.decoded_eq _ (hd _)

/-- The codes times the scales. -/
theorem scaled_apply (s : FVec Ideal S160x512 .bf16) (q : Vec Ideal S2560x512 .i8) (g : Fin 160) (j : Fin 32) (l : Fin 512) :
    k0_pay7 s q (ix3 g j l) = Term.code g (q (ix2 ⟨g.val / 2 * 32 + j.val, by omega⟩ l)) * s (ix2 g l) := by
  pointwise [k0_pay7]
  congr 1
  unfold Term.code
  by_cases h : g.val % 2 < 1
  · rw [dif_pos h, if_pos (by omega), Term.low_code]
  · rw [dif_neg h, if_neg (by omega), Term.high_code]

/-- THE BLOCK at an element. -/
theorem block_apply (x : Vec Ideal S256x5120 .bf16) (q : Vec Ideal S2560x512 .i8) (d dmin : Vec Ideal S20x512 .i16)
    (sc mn : Vec Ideal S160x512 .i8) (hd : ∀ i, Fine (d i)) (hdmin : ∀ i, Fine (dmin i)) (r : Fin 256) (l : Fin 512) :
    k0_pay1 (k0_pay6 (k0_pay3 dmin) (k0_pay4 dmin) (k0_pay5 dmin) mn) (k0_pay7 (k0_pay2 d sc) q) x (ix2 r l)
      = ∑ k : Fin 5120, Term.term (x (ix2 r k)) (k.val / 32) (q (ix2 ⟨k.val / 64 * 32 + k.val % 32, by omega⟩ l))
          (d (ix2 ⟨k.val / 256, by omega⟩ l)) (dmin (ix2 ⟨k.val / 256, by omega⟩ l))
          (sc (ix2 ⟨k.val / 32, by omega⟩ l)) (mn (ix2 ⟨k.val / 32, by omega⟩ l)) := by
  pointwise [k0_pay1]
  refine Finset.sum_congr rfl fun k _ => ?_
  rw [scaled_apply, scales_apply d sc hd, offsets_apply dmin mn hdmin]
  unfold Term.term
  simp only [Nat.div_div_eq_div_mul, Nat.reduceMul]

end Cert.KernelIdeal.Block
-- ==== Proof.KernelValue.lean ====
/-
  What the kernel leaves in its result.

  The ten grid points write the ten 512-column blocks of a 256 x 5120 array, each the block of `KernelBlock`; together
  they are one function of the launch's arguments (`product`). A last host operation gives the array a unit axis.
-/
module

public import proofs.«01_k».proof.Proof.KernelBlock
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Result

open Idealize.ShloMosaic Idealize.ShloMosaic.TcCoe Idealize.ShloMosaic.Tactic Idealize.SL.Sem
open Cert.KernelIdeal Cert.KernelIdeal.Gen Cert.KernelIdeal.Block

/-- The linear map at row `r` and column `n`, as a sum over the matrix's rows. -/
def product (x : S256x1x5120.Idx → EReal) (q : S2560x5120.Idx → BitVec 8) (d dmin : S20x5120.Idx → BitVec 16)
    (sc mn : S160x5120.Idx → BitVec 8) (r : Fin 256) (n : Fin 5120) : EReal :=
  ∑ k : Fin 5120, Term.term (x (ix3 r 0 k)) (k.val / 32) (q (ix2 ⟨k.val / 64 * 32 + k.val % 32, by omega⟩ n))
    (d (ix2 ⟨k.val / 256, by omega⟩ n)) (dmin (ix2 ⟨k.val / 256, by omega⟩ n))
    (sc (ix2 ⟨k.val / 32, by omega⟩ n)) (mn (ix2 ⟨k.val / 32, by omega⟩ n))

variable (m : (ℓ : Loc nD τ sig) → Buf (Elt Ideal) ℓ)

/-- The same of the arguments in a memory. -/
abbrev productOf (c : Dev nD) (r : Fin 256) (n : Fin 5120) : EReal :=
  product (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r n

/-- Where each window's block stands: the left operand whole, every other at the grid point's columns. -/
theorem idx : ∀ t : Fin cfg0.N, (cfg0.win 0).index t = ![0, 0] ∧ (cfg0.win 1).index t = ![0, t.val] ∧ (cfg0.win 2).index t = ![0, t.val]
    ∧ (cfg0.win 3).index t = ![0, t.val] ∧ (cfg0.win 4).index t = ![0, t.val] ∧ (cfg0.win 5).index t = ![0, t.val]
    ∧ (cfg0.win 6).index t = ![0, t.val] := by decide +kernel

/-! ## The blocks' elements in the launch's arguments -/

/-- The column of the arrays at which column `l` of point `t`'s blocks stands. -/
abbrev col (t : Fin cfg0.N) (l : Fin 512) : Fin 5120 := ⟨t.val * 512 + l.val, by have : t.val < 10 := t.isLt; omega⟩

/-- The left operand as the grid finds it: the argument without its unit axis. -/
theorem entry_left (c : Dev nD) (r : Fin 256) (k : Fin 5120) :
    V0 m c (Proc.devRef .tc main_v0) (ix2 r k) = m ((c : Thread nD τ).loc main_arg0) (ix3 r 0 k) := by
  show StableHlo.after (hostOps0 (F := Ideal)) (fun b => m (c, b)) (Proc.devRef .tc main_v0) (ix2 r k) = _
  after_reads_at

theorem block0 (c : Dev nD) (t : Fin cfg0.N) (r : Fin 256) (k : Fin 5120) :
    iblk m c 0 t (ix2 r k) = m ((c : Thread nD τ).loc main_arg0) (ix3 r 0 k) := by
  refine Eq.trans ?_ (entry_left m c r k)
  blk_ext [iblk, V, idx t]

theorem block1 (c : Dev nD) (t : Fin cfg0.N) (i : Fin 2560) (l : Fin 512) :
    iblk m c 1 t (ix2 i l) = m ((c : Thread nD τ).loc main_arg1) (ix2 i (col t l)) := by
  blk_ext [iblk, V, idx t]

theorem block2 (c : Dev nD) (t : Fin cfg0.N) (i : Fin 20) (l : Fin 512) :
    iblk m c 2 t (ix2 i l) = m ((c : Thread nD τ).loc main_arg2) (ix2 i (col t l)) := by
  blk_ext [iblk, V, idx t]

theorem block3 (c : Dev nD) (t : Fin cfg0.N) (i : Fin 20) (l : Fin 512) :
    iblk m c 3 t (ix2 i l) = m ((c : Thread nD τ).loc main_arg3) (ix2 i (col t l)) := by
  blk_ext [iblk, V, idx t]

theorem block4 (c : Dev nD) (t : Fin cfg0.N) (i : Fin 160) (l : Fin 512) :
    iblk m c 4 t (ix2 i l) = m ((c : Thread nD τ).loc main_arg4) (ix2 i (col t l)) := by
  blk_ext [iblk, V, idx t]

theorem block5 (c : Dev nD) (t : Fin cfg0.N) (i : Fin 160) (l : Fin 512) :
    iblk m c 5 t (ix2 i l) = m ((c : Thread nD τ).loc main_arg5) (ix2 i (col t l)) := by
  blk_ext [iblk, V, idx t]

/-- The output's block at point `t` stands at the same columns. -/
theorem place (t : Fin cfg0.N) (r : Fin 256) (l : Fin 512) :
    ((cfg0.win 6).blk t).view.emb (ix2 r l) = (ix2 r (col t l) : S256x5120.Idx) := by
  blk_ext [idx t]

/-- One point's block, over the launch's arguments. -/
theorem point_eq (c : Dev nD) (hd : ∀ i, Fine (m ((c : Thread nD τ).loc main_arg2) i))
    (hdmin : ∀ i, Fine (m ((c : Thread nD τ).loc main_arg3) i)) (t : Fin cfg0.N) (r : Fin 256) (l : Fin 512) :
    k0_pay1 (k0_pay6 (k0_pay3 (iblk m c 3 t)) (k0_pay4 (iblk m c 3 t)) (k0_pay5 (iblk m c 3 t)) (iblk m c 5 t))
      (k0_pay7 (k0_pay2 (iblk m c 2 t) (iblk m c 4 t)) (iblk m c 1 t)) (iblk m c 0 t) (ix2 r l) = productOf m c r (col t l) := by
  refine (block_apply (iblk m c 0 t) (iblk m c 1 t) (iblk m c 2 t) (iblk m c 3 t) (iblk m c 4 t) (iblk m c 5 t) (fun i => ?_) (fun i => ?_) r l).trans ?_
  · obtain ⟨a, b, rfl⟩ : ∃ (a : Fin 20) (b : Fin 512), i = ix2 a b := ⟨i 0, i 1, eq_ix2 i⟩
    rw [block2]; exact hd _
  · obtain ⟨a, b, rfl⟩ : ∃ (a : Fin 20) (b : Fin 512), i = ix2 a b := ⟨i 0, i 1, eq_ix2 i⟩
    rw [block3]; exact hdmin _
  · unfold productOf product
    refine Finset.sum_congr rfl fun k _ => ?_
    rw [block0, block1, block2, block3, block4, block5]

/-! ## The array and the result -/

/-- THE ARRAY after the grid's last point. -/
theorem array_eq (c : Dev nD) (hd : ∀ i, Fine (m ((c : Thread nD τ).loc main_arg2) i)) (hdmin : ∀ i, Fine (m ((c : Thread nD τ).loc main_arg3) i)) :
    (dats m 0 c).arrAt 6 cfg0.N = fun i : S256x5120.Idx => productOf m c (i 0) (i 1) := by
  refine (dats m 0 c).arrAt_eq_of_covers 6 _ (by decide +kernel) fun t hf y => ?_
  rw [after0_6]
  frame_out
  obtain ⟨r, l, rfl⟩ : ∃ (r : Fin 256) (l : Fin 512), y = ix2 r l := ⟨y 0, y 1, eq_ix2 y⟩
  rw [place]
  exact point_eq m c hd hdmin t r l

/-- THE RESULT: the array under a unit axis. -/
theorem result_eq (c : Dev nD) (hd : ∀ i, Fine (m ((c : Thread nD τ).loc main_arg2) i)) (hdmin : ∀ i, Fine (m ((c : Thread nD τ).loc main_arg3) i)) :
    Pipeline.afterTail₀ cfgs (dats m) 0 (V0 m) [hostOps1] c main_v2 = fun i : S256x1x5120.Idx => productOf m c (i 0) (i 2) := by
  funext i
  obtain ⟨r, u, n, rfl⟩ : ∃ (r : Fin 256) (u : Fin 1) (n : Fin 5120), i = ix3 r u n := ⟨i 0, i 1, i 2, eq_ix3 i⟩
  show StableHlo.after (hostOps1 (F := Ideal)) _ (Proc.devRef .tc main_v2) (ix3 r u n) = productOf m c r n
  after_reads_at
  exact congrFun ((Pipeline.withArrays_arr spec0 launch0.win.arr_inj c (V0 m c) (fun w => (dats m 0 c).arrAt w cfg0.N) 6).trans
    (array_eq m c hd hdmin)) (ix2 r n)

end Cert.KernelIdeal.Result
-- ==== Proof.Contraction.lean ====
/-
  The reference's contraction, as one sum over the matrix's rows.

  The reference contracts three axes at once: the 32 rows of a group, the 80 pairs of groups, and the two groups of a
  pair. Together they number the 5120 rows of the matrix, row `k` at place `k % 32` of group `k / 32 % 2` of pair
  `k / 64`, so the triple sum is the sum over the rows (`contraction_apply`).
-/
module

public import proofs.«01_k».proof.Proof.Gen.ReferenceIdeal.Frame
public import Idealize.ShloMosaic.Lib.Pointwise

@[expose] public section

set_option maxRecDepth 16384

noncomputable section

namespace Cert.ReferenceIdeal.Contraction

open Idealize.ShloMosaic Cert.ReferenceIdeal

/-- The reference's contraction. -/
abbrev dims := dot_S256x80x2x32_S80x2x32x5120_S256x5120_312_201_0_3_n_n

/-- The contraction's coordinates at row `k`. -/
def ofRow (k : Fin 5120) : dims.contr.Idx := fun p =>
  if h0 : p.val = 0 then ⟨k.val % 32, by
      have e : p = ⟨0, by decide⟩ := Fin.ext h0
      subst e; show _ < 32; omega⟩
  else if h1 : p.val = 1 then ⟨k.val / 64, by
      have e : p = ⟨1, by decide⟩ := Fin.ext h1
      subst e; show _ < 80; omega⟩
  else ⟨k.val / 32 % 2, by
      have hp : p.val < 3 := p.isLt
      have e : p = ⟨2, by decide⟩ := Fin.ext (by show p.val = 2; omega)
      subst e; show _ < 2; omega⟩

/-- The row at a contraction's coordinates. -/
def toRow (i : dims.contr.Idx) : Fin 5120 :=
  ⟨(i ⟨1, by decide⟩).val * 64 + (i ⟨2, by decide⟩).val * 32 + (i ⟨0, by decide⟩).val, by
    have h0 : (i ⟨0, by decide⟩).val < 32 := (i ⟨0, by decide⟩).isLt
    have h1 : (i ⟨1, by decide⟩).val < 80 := (i ⟨1, by decide⟩).isLt
    have h2 : (i ⟨2, by decide⟩).val < 2 := (i ⟨2, by decide⟩).isLt
    omega⟩

/-- Rows and coordinates correspond one to one. -/
def rows : Fin 5120 ≃ dims.contr.Idx where
  toFun := ofRow
  invFun := toRow
  left_inv k := by
    apply Fin.ext
    show k.val / 64 * 64 + k.val / 32 % 2 * 32 + k.val % 32 = k.val
    omega
  right_inv i := by
    have h0 : (i ⟨0, by decide⟩).val < 32 := (i ⟨0, by decide⟩).isLt
    have h1 : (i ⟨1, by decide⟩).val < 80 := (i ⟨1, by decide⟩).isLt
    have h2 : (i ⟨2, by decide⟩).val < 2 := (i ⟨2, by decide⟩).isLt
    have hv : (toRow i).val = (i ⟨1, by decide⟩).val * 64 + (i ⟨2, by decide⟩).val * 32 + (i ⟨0, by decide⟩).val := rfl
    funext p
    apply Fin.ext
    have hp : p.val < 3 := p.isLt
    obtain e | e | e : p = ⟨0, by decide⟩ ∨ p = ⟨1, by decide⟩ ∨ p = ⟨2, by decide⟩ := by
      simp only [Fin.ext_iff]; omega
    · subst e; show (toRow i).val % 32 = _; omega
    · subst e; show (toRow i).val / 64 = _; omega
    · subst e; show (toRow i).val / 32 % 2 = _; omega

/-- The left operand's element at row `k` of the matrix. -/
theorem lhsIdx_eq (r : Fin 256) (n : Fin 5120) (k : Fin 5120) :
    dims.lhsIdx (ix2 r n) (ofRow k) = ix4 r (⟨k.val / 64, by omega⟩ : Fin 80) (⟨k.val / 32 % 2, by omega⟩ : Fin 2) (⟨k.val % 32, by omega⟩ : Fin 32) := by
  funext a
  fin_cases a <;> rfl

/-- The matrix's element at row `k`. -/
theorem rhsIdx_eq (r : Fin 256) (n : Fin 5120) (k : Fin 5120) :
    dims.rhsIdx (ix2 r n) (ofRow k) = ix4 (⟨k.val / 64, by omega⟩ : Fin 80) (⟨k.val / 32 % 2, by omega⟩ : Fin 2) (⟨k.val % 32, by omega⟩ : Fin 32) n := by
  funext a
  fin_cases a <;> rfl

/-- THE CONTRACTION at an element. -/
theorem contraction_apply (lhs : S256x80x2x32.Idx → EReal) (rhs : S80x2x32x5120.Idx → EReal) (r : Fin 256) (n : Fin 5120) :
    Ideal.matmul dims lhs rhs (fun _ => 0) (ix2 r n)
      = ∑ k : Fin 5120, lhs (ix4 r ⟨k.val / 64, by omega⟩ ⟨k.val / 32 % 2, by omega⟩ ⟨k.val % 32, by omega⟩)
          * rhs (ix4 ⟨k.val / 64, by omega⟩ ⟨k.val / 32 % 2, by omega⟩ ⟨k.val % 32, by omega⟩ n) := by
  refine (zero_add _).trans ?_
  refine (Fintype.sum_equiv rows _ _ fun k => ?_).symm
  show _ = lhs (dims.lhsIdx (ix2 r n) (ofRow k)) * rhs (dims.rhsIdx (ix2 r n) (ofRow k))
  rw [lhsIdx_eq, rhsIdx_eq]

end Cert.ReferenceIdeal.Contraction
-- ==== Proof.ReferenceValue.lean ====
/-
  What the reference leaves in its result.

  A gridless call first turns the two arrays of 16-bit words into the half-precision numbers that they denote; host
  operations then build the matrix entry by entry and contract it with the left operand. The result at row `r` and column
  `n` is the same sum over the matrix's rows as the kernel's.
-/
module

public import proofs.«01_k».proof.Proof.Contraction
public import proofs.«01_k».proof.Proof.Term
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Result

open Idealize.ShloMosaic Idealize.ShloMosaic.TcCoe Idealize.ShloMosaic.Tactic Idealize.SL.Sem
open Cert.ReferenceIdeal Cert.ReferenceIdeal.Gen

/-- The linear map at row `r` and column `n`, its half-precision numbers `d` and `dmin` given as numbers. -/
def product (x : S256x1x5120.Idx → EReal) (q : S2560x5120.Idx → BitVec 8) (d dmin : S20x5120.Idx → EReal)
    (sc mn : S160x5120.Idx → BitVec 8) (r : Fin 256) (n : Fin 5120) : EReal :=
  ∑ k : Fin 5120, x (ix3 r 0 k)
    * (Term.code (k.val / 32) (q (ix2 ⟨k.val / 64 * 32 + k.val % 32, by omega⟩ n))
        * (d (ix2 ⟨k.val / 256, by omega⟩ n) * Term.byte (sc (ix2 ⟨k.val / 32, by omega⟩ n)))
      - dmin (ix2 ⟨k.val / 256, by omega⟩ n) * Term.byte (mn (ix2 ⟨k.val / 32, by omega⟩ n)))

/-! ## The host operations -/

/-- A code: the two shift distances are 0 for the group of even number and 4 for the other. -/
theorem code_eq (q : BitVec 8) (g : Nat) (p : Fin 2) (hp : p.val = g % 2) :
    FloatOps.sitofp (F := Ideal) .bf16 (IntOp.andi (IntOp.shrsi .host (BitVec.setWidth 32 q) (lit0 p)) 15#32) = Term.code g q := by
  unfold Term.code
  obtain ⟨p, h⟩ := p
  obtain rfl | rfl : p = 0 ∨ p = 1 := by omega
  · rw [if_pos (by simpa using hp.symm)]
    exact Term.host_low_code q
  · rw [if_neg (by simpa using hp.symm)]
    exact Term.host_high_code q

/-- One product of the contraction: the rows and groups that the reshapes reach are those of row `k`. -/
theorem product_eq (x : S256x1x5120.Idx → EReal) (q : S2560x5120.Idx → BitVec 8) (shift : S2.Idx → BitVec 32)
    (d dmin : S20x5120.Idx → EReal) (sc mn : S160x5120.Idx → BitVec 8) (hshift : ∀ p : Fin 2, shift (ix1 p) = lit0 p)
    (r : Fin 256) (n k : Fin 5120) :
    x (ix3 r 0 ⟨k.val / 64 * 64 + k.val / 32 % 2 * 32 + k.val % 32, by omega⟩)
      * (FloatOps.sitofp (F := Ideal) .bf16 (IntOp.andi (IntOp.shrsi .host
            (BitVec.setWidth 32 (q (ix2 ⟨k.val / 64 * 32 + k.val % 32, by omega⟩ n))) (shift (ix1 ⟨k.val / 32 % 2, by omega⟩))) 15#32)
          * (d (ix2 ⟨(k.val / 64 * 2 + k.val / 32 % 2) / 8, by omega⟩ n)
            * FloatOps.sitofp (F := Ideal) .f32 (BitVec.setWidth 32 (sc (ix2 ⟨k.val / 64 * 2 + k.val / 32 % 2, by omega⟩ n))))
        - dmin (ix2 ⟨(k.val / 64 * 2 + k.val / 32 % 2) / 8, by omega⟩ n)
            * FloatOps.sitofp (F := Ideal) .f32 (BitVec.setWidth 32 (mn (ix2 ⟨k.val / 64 * 2 + k.val / 32 % 2, by omega⟩ n))))
    = x (ix3 r 0 k)
      * (Term.code (k.val / 32) (q (ix2 ⟨k.val / 64 * 32 + k.val % 32, by omega⟩ n))
          * (d (ix2 ⟨k.val / 256, by omega⟩ n) * Term.byte (sc (ix2 ⟨k.val / 32, by omega⟩ n)))
        - dmin (ix2 ⟨k.val / 256, by omega⟩ n) * Term.byte (mn (ix2 ⟨k.val / 32, by omega⟩ n))) := by
  have e1 : k.val / 64 * 64 + k.val / 32 % 2 * 32 + k.val % 32 = k.val := by omega
  have e2 : k.val / 64 * 2 + k.val / 32 % 2 = k.val / 32 := by omega
  have e3 : k.val / 32 / 8 = k.val / 256 := by omega
  rw [hshift, code_eq _ (k.val / 32) _ rfl, Term.byte_eq, Term.byte_eq]
  simp only [e1, e2, e3]

/-- The host operations' result at an element, from any contents at which they start. -/
theorem host_apply (W : Valuation τ sig (Elt Ideal)) (hshift : ∀ p : Fin 2, W (Proc.devRef .tc main_c) (ix1 p) = lit0 p)
    (r : Fin 256) (n : Fin 5120) :
    StableHlo.after (hostOps1 (F := Ideal)) W (Proc.devRef .tc main_v31) (ix3 r 0 n)
      = product (W (Proc.devRef .tc main_arg0)) (W (Proc.devRef .tc main_arg1)) (W (Proc.devRef .tc main_v0_0))
          (W (Proc.devRef .tc main_v0_1)) (W (Proc.devRef .tc main_arg4)) (W (Proc.devRef .tc main_arg5)) r n := by
  after_reads_at
  refine (Contraction.contraction_apply _ _ r n).trans ?_
  unfold product
  refine Finset.sum_congr rfl fun k _ => ?_
  pointwise
  exact product_eq (W (Proc.devRef .tc main_arg0)) (W (Proc.devRef .tc main_arg1)) (W (Proc.devRef .tc main_c))
    (W (Proc.devRef .tc main_v0_0)) (W (Proc.devRef .tc main_v0_1)) (W (Proc.devRef .tc main_arg4)) (W (Proc.devRef .tc main_arg5))
    hshift r n k

/-! ## The widened numbers -/

variable (m : (ℓ : Loc nD τ sig) → Buf (Elt Ideal) ℓ)

/-- Every window of the call is a whole array. -/
theorem idx : ∀ t : Fin cfg0.N, (cfg0.win 0).index t = ![0, 0] ∧ (cfg0.win 1).index t = ![0, 0] ∧ (cfg0.win 2).index t = ![0, 0]
    ∧ (cfg0.win 3).index t = ![0, 0] := by decide +kernel

theorem block0 (c : Dev nD) (t : Fin cfg0.N) (r : Fin 20) (l : Fin 5120) :
    iblk m c 0 t (ix2 r l) = m ((c : Thread nD τ).loc main_arg2) (ix2 r l) := by
  blk_ext [iblk, V, idx t]

theorem block1 (c : Dev nD) (t : Fin cfg0.N) (r : Fin 20) (l : Fin 5120) :
    iblk m c 1 t (ix2 r l) = m ((c : Thread nD τ).loc main_arg3) (ix2 r l) := by
  blk_ext [iblk, V, idx t]

theorem place2 (t : Fin cfg0.N) (r : Fin 20) (l : Fin 5120) : ((cfg0.win 2).blk t).view.emb (ix2 r l) = (ix2 r l : S20x5120.Idx) := by
  blk_ext [idx t]

theorem place3 (t : Fin cfg0.N) (r : Fin 20) (l : Fin 5120) : ((cfg0.win 3).blk t).view.emb (ix2 r l) = (ix2 r l : S20x5120.Idx) := by
  blk_ext [idx t]

theorem number2 (c : Dev nD) (t : Fin cfg0.N) (r : Fin 20) (l : Fin 5120) :
    k0_pay1 (iblk m c 0 t) (ix2 r l) = Ideal.ofBits .f16 (m ((c : Thread nD τ).loc main_arg2) (ix2 r l)) := by
  rw [← block0 m c t r l]; rfl

theorem number3 (c : Dev nD) (t : Fin cfg0.N) (r : Fin 20) (l : Fin 5120) :
    k0_pay2 (iblk m c 1 t) (ix2 r l) = Ideal.ofBits .f16 (m ((c : Thread nD τ).loc main_arg3) (ix2 r l)) := by
  rw [← block1 m c t r l]; rfl

/-- The call's first output: the numbers that the first array's words denote. -/
theorem widened2 (c : Dev nD) : (dats m 0 c).arrAt 2 cfg0.N
    = fun i : S20x5120.Idx => Ideal.ofBits .f16 (m ((c : Thread nD τ).loc main_arg2) i) := by
  refine (dats m 0 c).arrAt_eq_of_covers 2 _ (by decide +kernel) fun t hf y => ?_
  rw [after0_2]
  frame_out
  obtain ⟨r, l, rfl⟩ : ∃ (r : Fin 20) (l : Fin 5120), y = ix2 r l := ⟨y 0, y 1, eq_ix2 y⟩
  rw [place2]
  exact number2 m c t r l

/-- The call's second output, likewise. -/
theorem widened3 (c : Dev nD) : (dats m 0 c).arrAt 3 cfg0.N
    = fun i : S20x5120.Idx => Ideal.ofBits .f16 (m ((c : Thread nD τ).loc main_arg3) i) := by
  refine (dats m 0 c).arrAt_eq_of_covers 3 _ (by decide +kernel) fun t hf y => ?_
  rw [after0_3]
  frame_out
  obtain ⟨r, l, rfl⟩ : ∃ (r : Fin 20) (l : Fin 5120), y = ix2 r l := ⟨y 0, y 1, eq_ix2 y⟩
  rw [place3]
  exact number3 m c t r l

/-! ## The result -/

/-- What the buffers hold when the call has returned. -/
abbrev atExit (c : Dev nD) : Valuation τ sig (Elt Ideal) :=
  Pipeline.withArrays spec0 c (V0 m c) fun w => (dats m 0 c).arrAt w cfg0.N

theorem exit_shift (c : Dev nD) (p : Fin 2) : atExit m c (Proc.devRef .tc main_c) (ix1 p) = lit0 p := by
  refine (congrFun (Pipeline.withArrays_of_ne spec0 c (V0 m c) (fun w => (dats m 0 c).arrAt w cfg0.N) main_c
    (by exact (by decide : ∀ w, Pipeline.arrRef spec0 w ≠ main_c))) (ix1 p)).trans ?_
  show StableHlo.after (hostOps0 (F := Ideal)) (fun b => m (c, b)) (Proc.devRef .tc main_c) (ix1 p) = _
  after_reads_at
  fin_cases p <;> rfl

theorem exit_arg0 (c : Dev nD) : atExit m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem exit_arg1 (c : Dev nD) : atExit m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem exit_arg4 (c : Dev nD) : atExit m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem exit_arg5 (c : Dev nD) : atExit m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem exit_d (c : Dev nD) : atExit m c (Proc.devRef .tc main_v0_0)
    = fun i : S20x5120.Idx => Ideal.ofBits .f16 (m ((c : Thread nD τ).loc main_arg2) i) :=
  (Pipeline.withArrays_arr spec0 launch0.win.arr_inj c (V0 m c) (fun w => (dats m 0 c).arrAt w cfg0.N) 2).trans (widened2 m c)

theorem exit_dmin (c : Dev nD) : atExit m c (Proc.devRef .tc main_v0_1)
    = fun i : S20x5120.Idx => Ideal.ofBits .f16 (m ((c : Thread nD τ).loc main_arg3) i) :=
  (Pipeline.withArrays_arr spec0 launch0.win.arr_inj c (V0 m c) (fun w => (dats m 0 c).arrAt w cfg0.N) 3).trans (widened3 m c)

/-- THE RESULT, over the launch's arguments. -/
theorem result_eq (c : Dev nD) :
    Pipeline.afterTail₀ cfgs (dats m) 0 (V0 m) [hostOps1] c main_v31 = fun i : S256x1x5120.Idx =>
      product (m ((c : Thread nD τ).loc main_arg0)) (m ((c : Thread nD τ).loc main_arg1))
        (fun i => Ideal.ofBits .f16 (m ((c : Thread nD τ).loc main_arg2) i)) (fun i => Ideal.ofBits .f16 (m ((c : Thread nD τ).loc main_arg3) i))
        (m ((c : Thread nD τ).loc main_arg4)) (m ((c : Thread nD τ).loc main_arg5)) (i 0) (i 2) := by
  funext i
  obtain ⟨r, u, n, rfl⟩ : ∃ (r : Fin 256) (u : Fin 1) (n : Fin 5120), i = ix3 r u n := ⟨i 0, i 1, i 2, eq_ix3 i⟩
  obtain rfl : u = 0 := Fin.ext (by omega)
  refine (host_apply (atExit m c) (exit_shift m c) r n).trans ?_
  rw [exit_arg0, exit_arg1, exit_arg4, exit_arg5, exit_d, exit_dmin]
  rfl

end Cert.ReferenceIdeal.Result
-- ==== Proof.Precondition.lean ====
/-
  The precondition, word by word.

  The precondition is one bit: the conjunction, over both arrays of half-precision words, of «read as a signed number the
  word is at least 0 or at most −1024». A word at most −1024 has its sign bit set and is at most the word of minus
  infinity; so the bit says that no word is a NaN with its sign bit set.
-/
module

public import proofs.«01_k».proof.Proof.Gen.Pre_scales_are_not_negative_nans
public import proofs.«01_k».proof.Proof.KernelBlock
public import Idealize.ShloMosaic.Lib.ReduceAll

@[expose] public section

set_option maxRecDepth 16384

noncomputable section

namespace Cert.Precondition

open Idealize.ShloMosaic Cert.Pre_scales_are_not_negative_nans Cert.KernelIdeal.Block

/-- A conjunction of two bits that is 1 has both bits 1; a disjunction has one. -/
theorem and_bits : ∀ a b : BitVec 1, IntOp.andi a b = 1#1 → a = 1#1 ∧ b = 1#1 := by decide
theorem or_bits : ∀ a b : BitVec 1, IntOp.ori a b = 1#1 → a = 1#1 ∨ b = 1#1 := by decide

/-- One word's test. -/
theorem fine_of_test (w : BitVec 16)
    (h : IntOp.ori (IntOp.cmpi .sge (BitVec.signExtend 32 w) 0#32) (IntOp.cmpi .sle (BitVec.signExtend 32 w) 4294966272#32) = 1#1) :
    Fine w := by
  have hw := w.isLt
  have bit : ∀ b : Bool, BitVec.ofBool b = 1#1 → b = true := by decide
  have hi : (BitVec.signExtend 32 w).toInt = if w.toNat < 32768 then (w.toNat : Int) else w.toNat - 65536 := by
    rw [BitVec.toInt_signExtend_of_le (by decide), BitVec.toInt_eq_toNat_cond]
    split <;> split <;> omega
  rcases or_bits _ _ h with h | h
  · left
    have : (0#32).sle (BitVec.signExtend 32 w) = true := bit _ h
    rw [BitVec.sle_eq_decide, decide_eq_true_eq, hi, show (0#32).toInt = 0 from rfl] at this
    split at this <;> omega
  · right
    have : (BitVec.signExtend 32 w).sle 4294966272#32 = true := bit _ h
    rw [BitVec.sle_eq_decide, decide_eq_true_eq, hi, show (4294966272#32).toInt = -1024 from rfl] at this
    split at this <;> omega

/-- There is one index into a scalar. -/
instance : Subsingleton S_.Idx := ⟨fun a b => funext fun i => i.elim0⟩

/-- THE PRECONDITION: both arrays hold no NaN with its sign bit set. -/
theorem fine_of_fn (x : FVec Ideal S256x1x5120 .bf16) (q : IVec S2560x5120 8) (d dmin : IVec S20x5120 16) (sc mn : IVec S160x5120 8)
    (h : fn (F := Ideal) x q d dmin sc mn = fun _ => 1#1) : (∀ i, Fine (d i)) ∧ (∀ i, Fine (dmin i)) := by
  obtain ⟨h1, h2⟩ := and_bits _ _ (congrFun h ix0)
  exact ⟨fun i => fine_of_test _ (Host.reduce_andi_all _ _ _ _ _ h1 i), fun i => fine_of_test _ (Host.reduce_andi_all _ _ _ _ _ h2 i)⟩

end Cert.Precondition
-- ==== Proof.Algebraic.lean ====
/-
  The kernel's result is the reference's.

  Both results are sums over the matrix's rows of the same products (`KernelValue`, `ReferenceValue`), so from memories
  that agree on the arguments, and hold no NaN with its sign bit set among the half-precision words, the two runs end
  with the same result.
-/
module

public import proofs.«01_k».proof.Defs
public import proofs.«01_k».proof.Proof.KernelValue
public import proofs.«01_k».proof.Proof.ReferenceValue
public import proofs.«01_k».proof.Proof.Precondition

@[expose] public section

set_option maxRecDepth 16384

noncomputable section

namespace Cert.Algebraic

open Idealize.ShloMosaic Idealize.SL.Sem

/-- The two programs' results, from memories that agree on the arguments. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_scales_are_not_negative_nans m) (c : Dev KernelIdeal.nD)
    (hagree : m' (c.tc.loc ReferenceIdeal.main_arg0) = m (c.tc.loc KernelIdeal.main_arg0) ∧
      m' (c.tc.loc ReferenceIdeal.main_arg1) = m (c.tc.loc KernelIdeal.main_arg1) ∧
      m' (c.tc.loc ReferenceIdeal.main_arg2) = m (c.tc.loc KernelIdeal.main_arg2) ∧
      m' (c.tc.loc ReferenceIdeal.main_arg3) = m (c.tc.loc KernelIdeal.main_arg3) ∧
      m' (c.tc.loc ReferenceIdeal.main_arg4) = m (c.tc.loc KernelIdeal.main_arg4) ∧
      m' (c.tc.loc ReferenceIdeal.main_arg5) = m (c.tc.loc KernelIdeal.main_arg5)) :
    Pipeline.afterTail₀ ReferenceIdeal.cfgs (ReferenceIdeal.Gen.dats m') 0 (ReferenceIdeal.Gen.V0 m') [ReferenceIdeal.Gen.hostOps1] c
        ReferenceIdeal.main_v31
      = Pipeline.afterTail₀ KernelIdeal.cfgs (KernelIdeal.Gen.dats m) 0 (KernelIdeal.Gen.V0 m) [KernelIdeal.Gen.hostOps1] c
        KernelIdeal.main_v2 := by
  obtain ⟨hd, hdmin⟩ := Precondition.fine_of_fn _ _ _ _ _ _ (hpre c)
  obtain ⟨h0, h1, h2, h3, h4, h5⟩ := hagree
  refine (ReferenceIdeal.Result.result_eq m' c).trans (Eq.trans ?_ (KernelIdeal.Result.result_eq m c hd hdmin).symm)
  rw [h0, h1, h2, h3, h4, h5]
  rfl

/-- THE CLAIM of equal results. -/
theorem algebraic : Cert.algebraic_KernelIdeal_ReferenceIdeal_pre_scales_are_not_negative_nans := by
  pair_intro
  · run_from KernelIdeal.Gen.run_main m g
    exact KernelIdeal.Gen.W_main_arg0 m (KernelIdeal.Gen.dats m) c
  · run_from ReferenceIdeal.Gen.run_main m' g'
    · exact results_eq m m' hpre c (hagree c)
    · exact (ReferenceIdeal.Gen.W_main_arg0 m' (ReferenceIdeal.Gen.dats m') c).trans (hagree c).1
    · exact (ReferenceIdeal.Gen.W_main_arg1 m' (ReferenceIdeal.Gen.dats m') c).trans (hagree c).2.1
    · exact (ReferenceIdeal.Gen.W_main_arg4 m' (ReferenceIdeal.Gen.dats m') c).trans (hagree c).2.2.2.2.1
    · exact (ReferenceIdeal.Gen.W_main_arg5 m' (ReferenceIdeal.Gen.dats m') c).trans (hagree c).2.2.2.2.2

end Cert.Algebraic
-- ==== Proof.lean ====
/-
  The proof of `Cert.Claim`: the programs' stated facts, then the claims in the order the statement lists them — the three
  frames (each with the counters at zero, with and without the precondition), the passage from the kernel to its ideal
  program, and the equality of the kernel's result with the reference's (`Proof/Algebraic.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_are_not_negative_nans
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the statement holds. -/
theorem claim : Cert.Claim := ⟨Cert.Kernel.Gen.facts, Cert.KernelIdeal.Gen.facts, Cert.ReferenceIdeal.Gen.facts, Cert.Pre_scales_are_not_negative_nans.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Algebraic.algebraic⟩

end Cert.Proof

end
